-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x8064 : Shape := ⟨3, ![6, 1024, 8064]⟩
abbrev S6x1024 : Shape := ⟨2, ![6, 1024]⟩
abbrev S8064x1664 : Shape := ⟨2, ![8064, 1664]⟩
abbrev S1664 : Shape := ⟨1, ![1664]⟩
abbrev S6144x8064 : Shape := ⟨2, ![6144, 8064]⟩
abbrev S6144x1 : Shape := ⟨2, ![6144, 1]⟩
abbrev S1x1664 : Shape := ⟨2, ![1, 1664]⟩
abbrev S6144x1664 : Shape := ⟨2, ![6144, 1664]⟩
abbrev S6144x13 : Shape := ⟨2, ![6144, 13]⟩
abbrev S512x8064 : Shape := ⟨2, ![512, 8064]⟩
abbrev S512x1 : Shape := ⟨2, ![512, 1]⟩
abbrev S512x1664 : Shape := ⟨2, ![512, 1664]⟩
abbrev S512x13 : Shape := ⟨2, ![512, 13]⟩
abbrev S512x128 : Shape := ⟨2, ![512, 128]⟩
abbrev S1x128 : Shape := ⟨2, ![1, 128]⟩
abbrev S512 : Shape := ⟨1, ![512]⟩
abbrev S1x256 : Shape := ⟨2, ![1, 256]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S6x1024x8064, .fp8e4m3⟩
  | .hbm, ⟨1, _⟩ => ⟨S6x1024, .f32⟩
  | .hbm, ⟨2, _⟩ => ⟨S8064x1664, .fp8e4m3⟩
  | .hbm, ⟨3, _⟩ => ⟨S1664, .f32⟩
  | .hbm, ⟨4, _⟩ => ⟨S6144x8064, .fp8e4m3⟩
  | .hbm, ⟨5, _⟩ => ⟨S6144x1, .f32⟩
  | .hbm, ⟨6, _⟩ => ⟨S1x1664, .f32⟩
  | .hbm, ⟨7, _⟩ => ⟨S6144x1664, .fp8e4m3⟩
  | .hbm, ⟨8, _⟩ => ⟨S6144x13, .f32⟩
  | .local _ .vmem, ⟨0, _⟩ => ⟨S512x8064, .fp8e4m3⟩
  | .local _ .vmem, ⟨1, _⟩ => ⟨S512x8064, .fp8e4m3⟩
  | .local _ .vmem, ⟨2, _⟩ => ⟨S512x1, .f32⟩
  | .local _ .vmem, ⟨3, _⟩ => ⟨S512x1, .f32⟩
  | .local _ .vmem, ⟨4, _⟩ => ⟨S8064x1664, .fp8e4m3⟩
  | .local _ .vmem, ⟨5, _⟩ => ⟨S1x1664, .f32⟩
  | .local _ .vmem, ⟨6, _⟩ => ⟨S512x1664, .fp8e4m3⟩
  | .local _ .vmem, ⟨7, _⟩ => ⟨S512x1664, .fp8e4m3⟩
  | .local _ .vmem, ⟨8, _⟩ => ⟨S512x13, .f32⟩
  | .local _ .vmem, ⟨9, _⟩ => ⟨S512x13, .f32⟩
  | _, _ => ⟨S6x1024x8064, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8064 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8064x1664 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1664 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x13 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x1024x8064 : Shape := ⟨3, ![6, 1024, 8064]⟩
abbrev S6x1024 : Shape := ⟨2, ![6, 1024]⟩
abbrev S8064x1664 : Shape := ⟨2, ![8064, 1664]⟩
abbrev S1664 : Shape := ⟨1, ![1664]⟩
abbrev S6144x8064 : Shape := ⟨2, ![6144, 8064]⟩
abbrev S6144x1 : Shape := ⟨2, ![6144, 1]⟩
abbrev S1x1664 : Shape := ⟨2, ![1, 1664]⟩
abbrev S6144x1664 : Shape := ⟨2, ![6144, 1664]⟩
abbrev S6144x13 : Shape := ⟨2, ![6144, 13]⟩
abbrev S6144x13x128 : Shape := ⟨3, ![6144, 13, 128]⟩
abbrev S6144x13x1 : Shape := ⟨3, ![6144, 13, 1]⟩

abbrev nBuf : Space → Nat
  | .hbm => 9
  | .vmem => 6
  | .smem => 0
  | _ => 0

abbrev bufTy : (tb : Table) → Fin (tcTables nBuf tb) → BufTy
  | .hbm, ⟨0, _⟩ => ⟨S6x1024x8064, .fp8e4m3⟩
  | .hbm, ⟨1, _⟩ => ⟨S6x1024, .f32⟩
  | .hbm, ⟨2, _⟩ => ⟨S8064x1664, .fp8e4m3⟩
  | .hbm, ⟨3, _⟩ => ⟨S1664, .f32⟩
  | .hbm, ⟨4, _⟩ => ⟨S6144x8064, .fp8e4m3⟩
  | .hbm, ⟨5, _⟩ => ⟨S6144x1, .f32⟩
  | .hbm, ⟨6, _⟩ => ⟨S1x1664, .f32⟩
  | .hbm, ⟨7, _⟩ => ⟨S6144x1664, .fp8e4m3⟩
  | .hbm, ⟨8, _⟩ => ⟨S6144x13, .f32⟩
  | .local _ .vmem, ⟨0, _⟩ => ⟨S6144x8064, .fp8e4m3⟩
  | .local _ .vmem, ⟨1, _⟩ => ⟨S6144x1, .f32⟩
  | .local _ .vmem, ⟨2, _⟩ => ⟨S8064x1664, .fp8e4m3⟩
  | .local _ .vmem, ⟨3, _⟩ => ⟨S1x1664, .f32⟩
  | .local _ .vmem, ⟨4, _⟩ => ⟨S6144x1664, .fp8e4m3⟩
  | .local _ .vmem, ⟨5, _⟩ => ⟨S6144x13, .f32⟩
  | _, _ => ⟨S6x1024x8064, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x8064 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8064x1664 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1664 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x13 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Group.lean ====
/- What one grid point of the kernel stores, as one text per group of 128 columns: the printed text repeats it thirteen
   times, cut at different places. -/
module

public import proofs.«01_k».proof.Proof.Gen.KernelIdeal.Value

@[expose] public section

set_option maxRecDepth 16384

noncomputable section

namespace Cert.Proof.Group

open Cert.KernelIdeal Cert.KernelIdeal.Gen Idealize.ShloMosaic Idealize.SL.Sem

variable {F : FTy → Type} [FloatOps F]

/-- The squared relu of a group's scaled products. -/
def yBlk (hg : FVec F S512x128 .f32) (xs : FVec F S512x1 .f32) (ws : Vec F S1x128 .f32) : FVec F S512x128 .f32 :=
  have w1 : FVec F S1x128 .f32 := shapeCast S1x128 ws shapeCasts_S1x128_S1x128
  have sc : FVec F S512x128 .f32 := mulf (broadcastTo S512x128 xs broadcasts_S512x1_S512x128) (broadcastTo S512x128 w1 broadcasts_S1x128_S512x128)
  have r : FVec F S512x128 .f32 := maximumf (mulf hg sc) (broadcast S512x128 (Scalar.ofBits .f32 0x00000000#32))
  mulf r r

/-- A row's greatest magnitude in the group, times the constant 1/448. -/
def tBlk (y : FVec F S512x128 .f32) : FVec F S512x1 .f32 :=
  have a : FVec F S512 .f32 := multiReduction .maximumf [1] S512 (absf y) 0xFF800000#32 reduces_S512x128_S512 (.inl rfl) rfl
  mulf (shapeCast S512x1 a shapeCasts_S512_S512x1) (broadcast S512x1 (Scalar.ofBits .f32 0x3B124925#32))

/-- The exponent field of `t` : the number of powers of two not above it, less one; 255 from `2 ^ 126` on. -/
def rawBlk (t : FVec F S512x1 .f32) : IVec S512x1 32 :=
  have p : FVec F S1x256 .f32 := bitcastToFloat .f32 (shli (iota .tc S1x256 32 [1] iota_S1x256_d1_w32) (broadcast S1x256 23#32))
  have ge : IVec S512x256 1 := cmpf .oge (broadcastTo S512x256 t broadcasts_S512x1_S512x256) (broadcastTo S512x256 p broadcasts_S1x256_S512x256)
  have n : IVec S512 32 := multiReductionI .add [1] S512 (extui 32 ge natLt_1_32) 0#32 reduces_S512x256_S512 rfl
  select (cmpf .olt t (broadcast S512x1 (Scalar.ofBits .f32 0x7E800000#32)))
    (subi (shapeCast S512x1 n shapeCasts_S512_S512x1) (broadcast S512x1 1#32)) (broadcast S512x1 255#32)

/-- The same with 126 (a scale of one) for the fields 0 and 255. -/
def fieldBlk (t : FVec F S512x1 .f32) : IVec S512x1 32 :=
  select (ori (cmpi .eq (rawBlk t) (broadcast S512x1 0#32)) (cmpi .eq (rawBlk t) (broadcast S512x1 255#32)))
    (broadcast S512x1 126#32) (rawBlk t)

/-- The inverse scale of a row's group. -/
def invBlk (t : FVec F S512x1 .f32) : FVec F S512x1 .f32 :=
  bitcastToFloat .f32 (shli (subi (broadcast S512x1 253#32) (fieldBlk t)) (broadcast S512x1 23#32))

/-- The scale of a row's group. -/
def scaleBlk (t : FVec F S512x1 .f32) : FVec F S512x1 .f32 :=
  bitcastToFloat .f32 (shli (addi (fieldBlk t) (broadcast S512x1 1#32)) (broadcast S512x1 23#32))

/-- The codes of a group. -/
def codesBlk (y : FVec F S512x128 .f32) : FVec F S512x128 .fp8e4m3 :=
  truncf .fp8e4m3 (minimumf (broadcast S512x128 (Scalar.ofBits .f32 0x43E00000#32))
    (maximumf (broadcast S512x128 (Scalar.ofBits .f32 0xC3E00000#32))
      (mulf y (broadcastTo S512x128 (invBlk (tBlk y)) broadcasts_S512x1_S512x128)))) bitsLt_fp8e4m3_f32

/-- Group 0 of a block: the squared relu of columns 0 to 127. -/
def y0 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 0] (k0_pay3 (View.ld x0 r0_0) (View.ld x2 r0_1)) slices_S512x1664_o0_0_S512x128)
    (k0_pay4 (View.ld x1 r0_2)) (View.ld x3 r0_3)

/-- Group 1 of a block: the squared relu of columns 128 to 255. -/
def y1 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 128] (k0_pay3 (View.ld x0 r0_0) (View.ld x2 r0_1)) slices_S512x1664_o0_128_S512x128)
    (k0_pay4 (View.ld x1 r0_2)) (View.ld x3 r0_5)

/-- Group 2 of a block: the squared relu of columns 256 to 383. -/
def y2 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 256] (k0_pay3 (View.ld x0 r0_0) (View.ld x2 r0_1)) slices_S512x1664_o0_256_S512x128)
    (k0_pay4 (View.ld x1 r0_2)) (View.ld x3 r0_7)

/-- Group 3 of a block: the squared relu of columns 384 to 511. -/
def y3 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 384] (k0_pay3 (View.ld x0 r0_0) (View.ld x2 r0_1)) slices_S512x1664_o0_384_S512x128)
    (k0_pay4 (View.ld x1 r0_2)) (View.ld x3 r0_9)

/-- Group 4 of a block: the squared relu of columns 512 to 639. -/
def y4 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 512] (k0_pay3 (View.ld x0 r0_0) (View.ld x2 r0_1)) slices_S512x1664_o0_512_S512x128)
    (k0_pay4 (View.ld x1 r0_2)) (View.ld x3 r0_11)

/-- Group 5 of a block: the squared relu of columns 640 to 767. -/
def y5 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 640] (k0_pay3 (View.ld x0 r0_0) (View.ld x2 r0_1)) slices_S512x1664_o0_640_S512x128)
    (k0_pay4 (View.ld x1 r0_2)) (View.ld x3 r0_13)

/-- Group 6 of a block: the squared relu of columns 768 to 895. -/
def y6 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 768] (k0_pay3 (View.ld x0 r0_0) (View.ld x2 r0_1)) slices_S512x1664_o0_768_S512x128)
    (k0_pay4 (View.ld x1 r0_2)) (View.ld x3 r0_15)

/-- Group 7 of a block: the squared relu of columns 896 to 1023. -/
def y7 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 896] (k0_pay3 (View.ld x0 r0_0) (View.ld x2 r0_1)) slices_S512x1664_o0_896_S512x128)
    (k0_pay4 (View.ld x1 r0_2)) (View.ld x3 r0_17)

/-- Group 8 of a block: the squared relu of columns 1024 to 1151. -/
def y8 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 1024] (k0_pay3 (View.ld x0 r0_0) (View.ld x2 r0_1)) slices_S512x1664_o0_1024_S512x128)
    (k0_pay4 (View.ld x1 r0_2)) (View.ld x3 r0_19)

/-- Group 9 of a block: the squared relu of columns 1152 to 1279. -/
def y9 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 1152] (k0_pay3 (View.ld x0 r0_0) (View.ld x2 r0_1)) slices_S512x1664_o0_1152_S512x128)
    (k0_pay4 (View.ld x1 r0_2)) (View.ld x3 r0_21)

/-- Group 10 of a block: the squared relu of columns 1280 to 1407. -/
def y10 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 1280] (k0_pay3 (View.ld x0 r0_0) (View.ld x2 r0_1)) slices_S512x1664_o0_1280_S512x128)
    (k0_pay4 (View.ld x1 r0_2)) (View.ld x3 r0_23)

/-- Group 11 of a block: the squared relu of columns 1408 to 1535. -/
def y11 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 1408] (k0_pay3 (View.ld x0 r0_0) (View.ld x2 r0_1)) slices_S512x1664_o0_1408_S512x128)
    (k0_pay4 (View.ld x1 r0_2)) (View.ld x3 r0_25)

/-- Group 12 of a block: the squared relu of columns 1536 to 1663. -/
def y12 (x0 : Vec F S512x8064 .fp8e4m3) (x1 : Vec F S512x1 .f32) (x2 : Vec F S8064x1664 .fp8e4m3) (x3 : Vec F S1x1664 .f32) : FVec F S512x128 .f32 :=
  yBlk (extractStridedSlice S512x128 ![0, 1536] (k0_pay3 (View.ld x0 r0_0) (View.ld x2 r0_1)) slices_S512x1664_o0_1536_S512x128)
    (k0_pay4 (View.ld x1 r0_2)) (View.ld x3 r0_27)

/-- The codes' block after the body: per group its codes. -/
theorem out4_eq (x0 : Vec F S512x8064 .fp8e4m3) (x1 : Vec F S512x1 .f32) (x2 : Vec F S8064x1664 .fp8e4m3) (x3 : Vec F S1x1664 .f32) :
    out0_4 x0 x1 x2 x3 = View.canon [⟨r0_28, codesBlk (y12 x0 x1 x2 x3)⟩, ⟨r0_26, codesBlk (y11 x0 x1 x2 x3)⟩, ⟨r0_24, codesBlk (y10 x0 x1 x2 x3)⟩, ⟨r0_22, codesBlk (y9 x0 x1 x2 x3)⟩, ⟨r0_20, codesBlk (y8 x0 x1 x2 x3)⟩, ⟨r0_18, codesBlk (y7 x0 x1 x2 x3)⟩, ⟨r0_16, codesBlk (y6 x0 x1 x2 x3)⟩, ⟨r0_14, codesBlk (y5 x0 x1 x2 x3)⟩, ⟨r0_12, codesBlk (y4 x0 x1 x2 x3)⟩, ⟨r0_10, codesBlk (y3 x0 x1 x2 x3)⟩, ⟨r0_8, codesBlk (y2 x0 x1 x2 x3)⟩, ⟨r0_6, codesBlk (y1 x0 x1 x2 x3)⟩, ⟨r0_4, codesBlk (y0 x0 x1 x2 x3)⟩] := rfl

/-- The scales' block after the body: the groups' scales side by side. -/
theorem out5_eq (x0 : Vec F S512x8064 .fp8e4m3) (x1 : Vec F S512x1 .f32) (x2 : Vec F S8064x1664 .fp8e4m3) (x3 : Vec F S1x1664 .f32) :
    out0_5 x0 x1 x2 x3 = View.canon [⟨r0_29, k0_pay2 (scaleBlk (tBlk (y0 x0 x1 x2 x3))) (scaleBlk (tBlk (y1 x0 x1 x2 x3))) (scaleBlk (tBlk (y2 x0 x1 x2 x3))) (scaleBlk (tBlk (y3 x0 x1 x2 x3))) (scaleBlk (tBlk (y4 x0 x1 x2 x3))) (scaleBlk (tBlk (y5 x0 x1 x2 x3))) (scaleBlk (tBlk (y6 x0 x1 x2 x3))) (scaleBlk (tBlk (y7 x0 x1 x2 x3))) (scaleBlk (tBlk (y8 x0 x1 x2 x3))) (scaleBlk (tBlk (y9 x0 x1 x2 x3))) (scaleBlk (tBlk (y10 x0 x1 x2 x3))) (scaleBlk (tBlk (y11 x0 x1 x2 x3))) (scaleBlk (tBlk (y12 x0 x1 x2 x3)))⟩] := rfl

end Cert.Proof.Group

end
-- ==== Proof.Exponent.lean ====
/- Powers of two as f32 patterns, and the exponent of an extended real found two ways: by counting the powers of two
   that are not above it, and by the floor of its base-two logarithm. No program is mentioned here. -/
module

public import Idealize.ShloMosaic.PureOps.Ideal
public import Idealize.ShloMosaic.PureOps.Ideal.Laws

@[expose] public section

noncomputable section

namespace Cert.Proof.Exponent

open Idealize.ShloMosaic

/-- The word with exponent field `k` and no other bit set. -/
def powWord (k : ℕ) : BitVec 32 := BitVec.ofNat 32 (k * 2 ^ 23)

/-- An exponent field from 1 to 254 alone denotes the power of two `2 ^ (k - 127)`. -/
theorem ofBits_powWord (k : ℕ) (h1 : 1 ≤ k) (h2 : k ≤ 254) :
    Ideal.ofBits .f32 (powWord k) = (((2 : ℝ) ^ ((k : ℤ) - 127) : ℝ) : EReal) := by
  have ht : (powWord k).toNat = k * 2 ^ 23 := by
    rw [powWord, BitVec.toNat_ofNat]
    exact Nat.mod_eq_of_lt (by omega)
  have hs : ((powWord k).extractLsb' (8 + 23) 1 == 1#1) = false := by
    rw [beq_eq_false_iff_ne]
    intro h
    have h := congrArg BitVec.toNat h
    rw [BitVec.extractLsb'_toNat, ht, Nat.shiftRight_eq_div_pow, BitVec.toNat_ofNat] at h
    omega
  have he : ((powWord k).extractLsb' 23 8).toNat = k := by
    rw [BitVec.extractLsb'_toNat, ht, Nat.shiftRight_eq_div_pow]
    omega
  have hf : ((powWord k).extractLsb' 0 23).toNat = 0 := by
    rw [BitVec.extractLsb'_toNat, ht, Nat.shiftRight_zero, Nat.mul_mod_left]
  show Ideal.ieee 8 23 (powWord k) = _
  unfold Ideal.ieee
  simp only [hs, he, hf]
  rw [if_neg (by omega), if_neg (by omega)]
  have hz : ((k : ℤ) - 127) = (23 : ℕ) + ((k : ℤ) - (2 ^ (8 - 1) - 1) - (23 : ℕ)) := by norm_num
  have hr : ((if false = true then (-1 : ℝ) else 1) * ((2 ^ 23 + 0 : ℕ) : ℝ)) = (2 : ℝ) ^ 23 := by
    rw [if_neg Bool.false_ne_true, one_mul, Nat.add_zero, Nat.cast_pow, Nat.cast_ofNat]
  rw [hr, hz, zpow_add₀ two_ne_zero, zpow_natCast]

/-- The empty exponent field denotes zero. -/
theorem ofBits_powWord_zero : Ideal.ofBits .f32 (powWord 0) = 0 := by
  simp [powWord]

/-- The full exponent field alone denotes infinity. -/
theorem ofBits_powWord_top : Ideal.ofBits .f32 (powWord 255) = ⊤ := by
  simp [powWord, Ideal.ofBits, Ideal.ieee]

/-- Powers of two grow with the exponent field. -/
theorem powWord_le (k n : ℕ) (hk : k ≤ n) (hn : n ≤ 254) :
    Ideal.ofBits .f32 (powWord k) ≤ Ideal.ofBits .f32 (powWord n) := by
  rcases Nat.eq_zero_or_pos k with rfl | h
  · rcases Nat.eq_zero_or_pos n with rfl | h'
    · exact le_rfl
    · rw [ofBits_powWord_zero, ofBits_powWord n h' hn]
      exact_mod_cast (zpow_pos (by norm_num : (0 : ℝ) < 2) _).le
  · rw [ofBits_powWord k h (by omega), ofBits_powWord n (by omega) hn]
    exact_mod_cast zpow_le_zpow_right₀ (by norm_num : (1 : ℝ) ≤ 2) (Int.sub_le_sub_right (Int.ofNat_le.mpr hk) 127)

/-- The exponent field of `t` : the greatest `n` up to 252 whose power of two is not above `t`, where `t` is below
    `2 ^ 126`. -/
theorem exists_field (t : EReal) (h0 : 0 ≤ t) (h1 : t < Ideal.ofBits .f32 (powWord 253)) :
    ∃ n : ℕ, n ≤ 252 ∧ Ideal.ofBits .f32 (powWord n) ≤ t ∧ t < Ideal.ofBits .f32 (powWord (n + 1)) := by
  have key : ∀ j : ℕ, j ≤ 253 → t < Ideal.ofBits .f32 (powWord j) →
      ∃ n : ℕ, n < j ∧ Ideal.ofBits .f32 (powWord n) ≤ t ∧ t < Ideal.ofBits .f32 (powWord (n + 1)) := by
    intro j
    induction j with
    | zero => intro _ h; rw [ofBits_powWord_zero] at h; exact absurd h0 (not_le.mpr h)
    | succ j ih =>
      intro hj h
      by_cases hc : t < Ideal.ofBits .f32 (powWord j)
      · obtain ⟨n, hn, ha, hb⟩ := ih (by omega) hc
        exact ⟨n, by omega, ha, hb⟩
      · exact ⟨j, by omega, not_lt.mp hc, h⟩
  obtain ⟨n, hn, ha, hb⟩ := key 253 le_rfl h1
  exact ⟨n, by omega, ha, hb⟩

/-- As many of the 256 powers of two (zero for the empty field, infinity for the full one) are not above `t` as its
    exponent field says, and one more for the empty field. -/
theorem card_field (t : EReal) (n : ℕ) (hn : n ≤ 252) (ha : Ideal.ofBits .f32 (powWord n) ≤ t)
    (hb : t < Ideal.ofBits .f32 (powWord (n + 1))) :
    (Finset.univ.filter fun k : Fin 256 => Ideal.ofBits .f32 (powWord k.val) ≤ t).card = n + 1 := by
  have : (Finset.univ.filter fun k : Fin 256 => Ideal.ofBits .f32 (powWord k.val) ≤ t)
      = Finset.univ.filter fun k : Fin 256 => k.val < n + 1 := by
    ext k
    simp only [Finset.mem_filter, Finset.mem_univ, true_and]
    constructor
    · intro h
      by_contra hc
      rcases Nat.lt_or_ge k.val 255 with h' | h'
      · exact absurd (lt_of_lt_of_le hb (powWord_le (n + 1) k.val (by omega) (by omega))) (not_lt.mpr h)
      · have : k.val = 255 := by omega
        rw [this, ofBits_powWord_top] at h
        exact absurd (lt_of_lt_of_le hb le_top) (not_lt.mpr h)
    · intro h
      exact (powWord_le k.val n (by omega) (by omega)).trans ha
  rw [this]
  have h2 : (Finset.univ.filter fun k : Fin 256 => k.val < n + 1) = (Finset.range (n + 1)).attachFin (fun i hi => by
      have := Finset.mem_range.mp hi; omega) := by
    ext k
    simp
  rw [h2, Finset.card_attachFin, Finset.card_range]

/-- The constant two of f32. -/
theorem ofBits_two : Ideal.ofBits .f32 0x40000000#32 = ((2 : ℝ) : EReal) := by
  simp [Ideal.ofBits, Ideal.ieee, -EReal.coe_mul]; norm_num

/-- The constant one of f32. -/
theorem ofBits_one : Ideal.ofBits .f32 0x3F800000#32 = ((1 : ℝ) : EReal) := by
  simp [Ideal.ofBits, Ideal.ieee, -EReal.coe_mul]; norm_num

/-- The floor of the base-two logarithm, plus one, is the exponent field less 126. -/
theorem floor_log_field (t : EReal) (n : ℕ) (h1 : 1 ≤ n) (hn : n ≤ 252) (ha : Ideal.ofBits .f32 (powWord n) ≤ t)
    (hb : t < Ideal.ofBits .f32 (powWord (n + 1))) :
    Ideal.liftRound Int.floor (Ideal.div (Ideal.log t) (Ideal.log (Ideal.ofBits .f32 0x40000000#32)))
      + Ideal.ofBits .f32 0x3F800000#32 = ((((n : ℤ) - 126 : ℤ) : ℝ) : EReal) := by
  rw [ofBits_powWord n h1 (by omega)] at ha
  rw [ofBits_powWord (n + 1) (by omega) (by omega)] at hb
  induction t using EReal.rec with
  | bot => exact absurd ha (by simp)
  | top => exact absurd hb (by simp)
  | coe r =>
    have ha' : (2 : ℝ) ^ ((n : ℤ) - 127) ≤ r := by exact_mod_cast ha
    have hb' : r < (2 : ℝ) ^ (((n + 1 : ℕ) : ℤ) - 127) := by exact_mod_cast hb
    have hr : 0 < r := lt_of_lt_of_le (zpow_pos (by norm_num) _) ha'
    have hl2 : (0 : ℝ) < Real.log 2 := Real.log_pos (by norm_num)
    rw [ofBits_two, ofBits_one, Ideal.log_coe, if_neg (not_le.mpr hr), Ideal.log_coe, if_neg (by norm_num),
      Ideal.div_coe hl2.ne', ← EReal.coe_mul, Ideal.liftRound_coe]
    have hfl : ⌊Real.log r * (1 / Real.log 2)⌋ = (n : ℤ) - 127 := by
      rw [mul_one_div, Int.floor_eq_iff, le_div_iff₀ hl2, div_lt_iff₀ hl2]
      constructor
      · rw [← Real.log_zpow]
        exact Real.log_le_log (zpow_pos two_pos _) ha'
      · have h : (((n : ℤ) - 127 : ℤ) : ℝ) + 1 = ((((n + 1 : ℕ) : ℤ) - 127 : ℤ) : ℝ) := by push_cast; ring
        rw [h, ← Real.log_zpow]
        exact Real.log_lt_log hr hb'
    rw [hfl, ← EReal.coe_add]
    congr 1
    push_cast
    ring

/-- A power of two with an integer exponent between -126 and 127 is what its exponent field denotes. -/
theorem exp2_int (e : ℤ) (k : ℕ) (h1 : 1 ≤ k) (h2 : k ≤ 254) (hk : (k : ℤ) = e + 127) :
    Ideal.exp2 (((e : ℤ) : ℝ) : EReal) = Ideal.ofBits .f32 (powWord k) := by
  rw [ofBits_powWord k h1 h2, Ideal.exp2_coe]
  have : ((k : ℤ) - 127) = e := by omega
  rw [this]
  congr 1
  exact Real.rpow_intCast 2 e

end Cert.Proof.Exponent

end
-- ==== Proof.Scales.lean ====
/- One element of each result as a function of extended reals, and the equality of the two ways of finding a group's
   scale: the exponent field counted on powers of two, and the exponent as the floor of a logarithm. No program is
   mentioned here. -/
module

public import proofs.«01_k».proof.Proof.Exponent
public import Idealize.ShloMosaic.PureOps.Vector
public import Idealize.ShloMosaic.Lib.IndicatorCount
public import Idealize.ShloMosaic.Lib.IdealHost
public import Idealize.ShloMosaic.Lib.Pointwise

@[expose] public section

noncomputable section

namespace Cert.Proof.Scales

open Idealize.ShloMosaic Cert.Proof.Exponent

/-- Column `c` of group `g`. -/
def col (g : Fin 13) (c : Fin 128) : Fin 1664 := ⟨g.val * 128 + c.val, by omega⟩
/-- The group of a column. -/
def grp (j : Fin 1664) : Fin 13 := ⟨j.val / 128, by omega⟩
/-- A column's place in its group. -/
def lane (j : Fin 1664) : Fin 128 := ⟨j.val % 128, by omega⟩

theorem col_grp_lane (j : Fin 1664) : col (grp j) (lane j) = j :=
  Fin.ext (by show j.val / 128 * 128 + j.val % 128 = j.val; omega)

/-- The squared relu of one scaled product. -/
def yAt (x w : Fin 8064 → EReal) (xs ws : EReal) : EReal :=
  max ((∑ k, x k * w k) * (xs * ws)) 0 * max ((∑ k, x k * w k) * (xs * ws)) 0

/-- The greatest magnitude of a group. -/
def amax (y : Fin 128 → EReal) : EReal :=
  Finset.fold max (Ideal.ofBits .f32 0xFF800000#32) (fun c => FloatOps.absf (F := Ideal) (φ := .f32) (y c)) Finset.univ

/-- The greatest magnitude times 1/448. -/
def tOf (a : EReal) : EReal := a * Ideal.ofBits .f32 0x3B124925#32

/-- A value held between -448 and 448. -/
def clip (v : EReal) : EReal := min (Ideal.ofBits .f32 0x43E00000#32) (max (Ideal.ofBits .f32 0xC3E00000#32) v)

/-- The exponent field of `t` : the number of powers of two not above it, less one; 255 from `2 ^ 126` on. -/
def raw (t : EReal) : BitVec 32 :=
  if t < Ideal.ofBits .f32 0x7E800000#32 then
    IntOp.subi (Finset.fold IntOp.addi (0#32) (fun k : Fin 256 => BitVec.setWidth 32 (BitVec.ofBool (decide
      (Ideal.ofBits .f32 (IntOp.shli ArithUnit.vector (BitVec.ofNat 32 k.val) 23#32) ≤ t)))) Finset.univ) 1#32
  else 255#32

/-- The same with 126 for the fields 0 and 255. -/
def field (t : EReal) : BitVec 32 :=
  Scalar.select (IntOp.ori (IntOp.cmpi .eq (raw t) 0#32) (IntOp.cmpi .eq (raw t) 255#32)) (126#32) (raw t)

/-- The inverse scale. -/
def invOf (t : EReal) : EReal := Ideal.ofBits .f32 (IntOp.shli ArithUnit.vector (IntOp.subi 253#32 (field t)) 23#32)

/-- The scale. -/
def scaleOf (t : EReal) : EReal := Ideal.ofBits .f32 (IntOp.shli ArithUnit.vector (IntOp.addi (field t) 1#32) 23#32)

/-- A two-axis array of extended reals. -/
abbrev Arr (a b : ℕ) : Type := (⟨2, ![a, b]⟩ : Shape).Idx → EReal

/-- The squared relu at row `r` and column `j`. -/
def yArr (x : Arr 6144 8064) (xs : Arr 6144 1) (w : Arr 8064 1664) (ws : Arr 1 1664) (r : Fin 6144) (j : Fin 1664) : EReal :=
  yAt (fun k => x (ix2 r k)) (fun k => w (ix2 k j)) (xs (ix2 r 0)) (ws (ix2 0 j))

/-- The greatest magnitude of row `r` in group `g`. -/
def aArr (x : Arr 6144 8064) (xs : Arr 6144 1) (w : Arr 8064 1664) (ws : Arr 1 1664) (r : Fin 6144) (g : Fin 13) : EReal :=
  amax fun k => yArr x xs w ws r (col g k)

/-- The codes, as one function of the four arrays. -/
def codesOf (x : Arr 6144 8064) (xs : Arr 6144 1) (w : Arr 8064 1664) (ws : Arr 1 1664) : Arr 6144 1664 := fun i =>
  clip (yArr x xs w ws (i 0) (i 1) * invOf (tOf (aArr x xs w ws (i 0) (grp (i 1)))))

/-- The scales, as one function of the four arrays. -/
def scalesOf (x : Arr 6144 8064) (xs : Arr 6144 1) (w : Arr 8064 1664) (ws : Arr 1 1664) : Arr 6144 13 := fun i =>
  scaleOf (tOf (aArr x xs w ws (i 0) (i 1)))

/-- The exponent of a group from its greatest magnitude, by a logarithm. -/
def expo (a : EReal) : EReal :=
  if a = 0 then 0 else
    Scalar.select (IntOp.andi (BitVec.ofBool (decide (Ideal.ofBits .f32 0x00800000#32 ≤ a * Ideal.ofBits .f32 0x3B124925#32)))
        (BitVec.ofBool (decide (a * Ideal.ofBits .f32 0x3B124925#32 < Ideal.ofBits .f32 0x7E800000#32))))
      (Ideal.liftRound Int.floor (Ideal.div (Ideal.log (a * Ideal.ofBits .f32 0x3B124925#32)) (Ideal.log (Ideal.ofBits .f32 0x40000000#32))) + 1)
      0

/-- Magnitudes are not negative. -/
theorem amax_nonneg (y : Fin 128 → EReal) : 0 ≤ amax y := by
  have h : ∀ c, 0 ≤ FloatOps.absf (F := Ideal) (φ := .f32) (y c) := by
    intro c
    show (0 : EReal) ≤ max (y c) (-(y c))
    rcases le_total 0 (y c) with h | h
    · exact le_max_of_le_left h
    · exact le_max_of_le_right (EReal.neg_nonneg.mpr h)
  unfold amax
  rw [Finset.le_fold_max]
  exact Or.inr ⟨0, Finset.mem_univ _, h 0⟩

/-- A shift by 23 places makes the word with that exponent field. -/
theorem shl_powWord (k : ℕ) (hk : k < 512) : IntOp.shli ArithUnit.vector (BitVec.ofNat 32 k) 23#32 = powWord k := by
  have h : IntOp.shli ArithUnit.vector (BitVec.ofNat 32 k) 23#32 = BitVec.ofNat 32 k <<< 23 := rfl
  rw [h]
  apply BitVec.eq_of_toNat_eq
  rw [BitVec.toNat_shiftLeft, powWord, BitVec.toNat_ofNat, BitVec.toNat_ofNat, Nat.shiftLeft_eq]
  omega

theorem word_253 : (0x7E800000#32 : BitVec 32) = powWord 253 := by decide
theorem word_1 : (0x00800000#32 : BitVec 32) = powWord 1 := by decide

/-- Below `2 ^ 126` the counted field is the exponent field. -/
theorem raw_eq (t : EReal) (n : ℕ) (hn : n ≤ 252) (h : t < Ideal.ofBits .f32 0x7E800000#32)
    (ha : Ideal.ofBits .f32 (powWord n) ≤ t) (hb : t < Ideal.ofBits .f32 (powWord (n + 1))) : raw t = BitVec.ofNat 32 n := by
  unfold raw
  rw [if_pos h, IndicatorCount.fold_addi_setWidth_eq_card]
  have hc : (Finset.univ.filter fun k : Fin 256 =>
      BitVec.ofBool (decide (Ideal.ofBits .f32 (IntOp.shli ArithUnit.vector (BitVec.ofNat 32 k.val) 23#32) ≤ t)) = 1#1).card = n + 1 := by
    rw [← card_field t n hn ha hb]
    congr 1
    apply Finset.filter_congr
    intro k _
    rw [shl_powWord k.val (by omega)]
    by_cases hk : Ideal.ofBits .f32 (powWord k.val) ≤ t
    · simp [hk]
    · simp [hk]
  rw [hc]
  show BitVec.ofNat 32 (n + 1) - 1#32 = _
  rw [BitVec.ofNat_add, BitVec.add_sub_cancel]

/-- The field, its two cases. -/
theorem field_cases (t : EReal) (h0 : 0 ≤ t) :
    (field t = 126#32 ∧ (t < Ideal.ofBits .f32 (powWord 1) ∨ ¬ t < Ideal.ofBits .f32 (powWord 253)))
    ∨ ∃ n : ℕ, 1 ≤ n ∧ n ≤ 252 ∧ field t = BitVec.ofNat 32 n ∧ Ideal.ofBits .f32 (powWord n) ≤ t
        ∧ t < Ideal.ofBits .f32 (powWord (n + 1)) := by
  by_cases h : t < Ideal.ofBits .f32 (powWord 253)
  · obtain ⟨n, hn, ha, hb⟩ := exists_field t h0 h
    have hr := raw_eq t n hn (word_253 ▸ h) ha hb
    unfold field
    rw [hr]
    rcases Nat.eq_zero_or_pos n with rfl | hp
    · exact Or.inl ⟨rfl, Or.inl hb⟩
    · refine Or.inr ⟨n, hp, hn, ?_, ha, hb⟩
      have e0 : (BitVec.ofNat 32 n == 0#32) = false := by
        rw [beq_eq_false_iff_ne]; intro e
        have := congrArg BitVec.toNat e
        simp at this; omega
      have e1 : (BitVec.ofNat 32 n == 255#32) = false := by
        rw [beq_eq_false_iff_ne]; intro e
        have := congrArg BitVec.toNat e
        simp at this; omega
      have c0 : IntOp.cmpi .eq (BitVec.ofNat 32 n) 0#32 = 0#1 := by
        show BitVec.ofBool (BitVec.ofNat 32 n == 0#32) = _
        rw [e0]; rfl
      have c1 : IntOp.cmpi .eq (BitVec.ofNat 32 n) 255#32 = 0#1 := by
        show BitVec.ofBool (BitVec.ofNat 32 n == 255#32) = _
        rw [e1]; rfl
      rw [c0, c1]
      rfl
  · refine Or.inl ⟨?_, Or.inr h⟩
    have hr : raw t = 255#32 := by unfold raw; rw [if_neg (by rw [word_253]; exact h)]
    unfold field
    rw [hr]
    rfl

/-- Off the range of normal powers the logarithm's exponent is zero. -/
theorem expo_out (a : EReal) (h : tOf a < Ideal.ofBits .f32 (powWord 1) ∨ ¬ tOf a < Ideal.ofBits .f32 (powWord 253)) : expo a = 0 := by
  unfold expo
  rw [word_253, word_1]
  unfold tOf at h
  split_ifs with ha
  · rfl
  · rcases h with h | h
    · rw [decide_eq_false (not_le.mpr h)]
      cases decide (a * Ideal.ofBits .f32 0x3B124925#32 < Ideal.ofBits .f32 (powWord 253)) <;> rfl
    · rw [decide_eq_false h]
      cases decide (Ideal.ofBits .f32 (powWord 1) ≤ a * Ideal.ofBits .f32 0x3B124925#32) <;> rfl

/-- In the range the logarithm's exponent is the field less 126. -/
theorem expo_in (a : EReal) (n : ℕ) (h1 : 1 ≤ n) (hn : n ≤ 252) (ha : Ideal.ofBits .f32 (powWord n) ≤ tOf a)
    (hb : tOf a < Ideal.ofBits .f32 (powWord (n + 1))) : expo a = ((((n : ℤ) - 126 : ℤ) : ℝ) : EReal) := by
  have hl := floor_log_field (tOf a) n h1 hn ha hb
  have hlo : Ideal.ofBits .f32 (powWord 1) ≤ tOf a := (powWord_le 1 n h1 (by omega)).trans ha
  have hhi : tOf a < Ideal.ofBits .f32 (powWord 253) := lt_of_lt_of_le hb (powWord_le (n + 1) 253 (by omega) (by omega))
  have hz : a ≠ 0 := by
    rintro rfl
    have h := ha
    rw [tOf, zero_mul, ofBits_powWord n h1 (by omega)] at h
    have h' : (2 : ℝ) ^ ((n : ℤ) - 127) ≤ 0 := by exact_mod_cast h
    exact absurd (zpow_pos (two_pos : (0 : ℝ) < 2) ((n : ℤ) - 127)) (not_lt.mpr h')
  unfold expo
  unfold tOf at hl hlo hhi
  rw [if_neg hz, word_253, word_1, decide_eq_true hlo, decide_eq_true hhi]
  rw [← hl, ofBits_one]
  rfl

/-- The logarithm's exponent gives the same inverse scale as the counted field. -/
theorem inv_eq (a : EReal) (h0 : 0 ≤ tOf a) : Ideal.exp2 (0 - expo a) = invOf (tOf a) := by
  unfold invOf
  rcases field_cases (tOf a) h0 with ⟨hf, h⟩ | ⟨n, h1, hn, hf, ha, hb⟩
  · rw [hf, expo_out a h]
    have e : IntOp.subi 253#32 126#32 = BitVec.ofNat 32 127 := by decide
    rw [e, shl_powWord 127 (by omega), ← exp2_int 0 127 (by omega) (by omega) (by omega)]
    simp
  · rw [hf, expo_in a n h1 hn ha hb]
    have e : IntOp.subi 253#32 (BitVec.ofNat 32 n) = BitVec.ofNat 32 (253 - n) := by
      show 253#32 - BitVec.ofNat 32 n = _
      apply BitVec.eq_of_toNat_eq
      simp only [BitVec.toNat_sub, BitVec.toNat_ofNat]
      omega
    rw [e, shl_powWord _ (by omega), ← exp2_int (126 - n) (253 - n) (by omega) (by omega) (by omega)]
    congr 1
    rw [← EReal.coe_zero, ← EReal.coe_sub]
    congr 1
    push_cast
    ring

/-- The logarithm's exponent gives the same scale as the counted field. -/
theorem scale_eq (a : EReal) (h0 : 0 ≤ tOf a) : Ideal.exp2 (expo a) = scaleOf (tOf a) := by
  unfold scaleOf
  rcases field_cases (tOf a) h0 with ⟨hf, h⟩ | ⟨n, h1, hn, hf, ha, hb⟩
  · rw [hf, expo_out a h]
    have e : IntOp.addi 126#32 1#32 = BitVec.ofNat 32 127 := by decide
    rw [e, shl_powWord 127 (by omega), ← exp2_int 0 127 (by omega) (by omega) (by omega)]
    simp
  · rw [hf, expo_in a n h1 hn ha hb]
    have e : IntOp.addi (BitVec.ofNat 32 n) 1#32 = BitVec.ofNat 32 (n + 1) := by
      show BitVec.ofNat 32 n + 1#32 = _
      rw [BitVec.ofNat_add]
    rw [e, shl_powWord _ (by omega), ← exp2_int (n - 126) (n + 1) (by omega) (by omega) (by push_cast; ring)]

/-- `t` is not negative. -/
theorem tOf_nonneg (a : EReal) (h : 0 ≤ a) : 0 ≤ tOf a := by
  have hc : (0 : EReal) ≤ Ideal.ofBits .f32 0x3B124925#32 := by
    simp [Ideal.ofBits, Ideal.ieee, -EReal.coe_mul]
  exact EReal.mul_nonneg h hc

end Cert.Proof.Scales

end
-- ==== Proof.KernelBlock.lean ====
/- What one grid point of the kernel stores, index by index at `Ideal`: the codes and the scales of 512 rows. -/
module

public import proofs.«01_k».proof.Proof.Group
public import proofs.«01_k».proof.Proof.Scales
public import Idealize.ShloMosaic.Lib.Pointwise
public import Idealize.ShloMosaic.Lib.ValueIdx

@[expose] public section

set_option maxRecDepth 16384

noncomputable section

namespace Cert.Proof.KernelBlock

open Cert.KernelIdeal Cert.KernelIdeal.Gen Cert.Proof.Group Cert.Proof.Scales Idealize.ShloMosaic Idealize.SL.Sem

theorem tBlk_apply (y : FVec Ideal S512x128 .f32) (r : Fin 512) (c : Fin 1) :
    tBlk (F := Ideal) y (ix2 r c) = tOf (amax fun k => y (ix2 r k)) := by
  pointwise [tBlk]
  rfl

theorem rawBlk_apply (t : FVec Ideal S512x1 .f32) (r : Fin 512) (c : Fin 1) :
    rawBlk (F := Ideal) t (ix2 r c) = raw (t (ix2 r 0)) := by
  obtain rfl : c = 0 := Subsingleton.elim _ _
  pointwise [rawBlk]
  rfl

theorem fieldBlk_apply (t : FVec Ideal S512x1 .f32) (r : Fin 512) (c : Fin 1) :
    fieldBlk (F := Ideal) t (ix2 r c) = field (t (ix2 r 0)) := by
  pointwise [fieldBlk]
  rw [rawBlk_apply]
  rfl

theorem invBlk_apply (t : FVec Ideal S512x1 .f32) (r : Fin 512) (c : Fin 1) :
    invBlk (F := Ideal) t (ix2 r c) = invOf (t (ix2 r 0)) := by
  pointwise [invBlk]
  rw [fieldBlk_apply]
  rfl

theorem scaleBlk_apply (t : FVec Ideal S512x1 .f32) (r : Fin 512) (c : Fin 1) :
    scaleBlk (F := Ideal) t (ix2 r c) = scaleOf (t (ix2 r 0)) := by
  pointwise [scaleBlk]
  rw [fieldBlk_apply]
  rfl

theorem codesBlk_apply (y : FVec Ideal S512x128 .f32) (r : Fin 512) (c : Fin 128) :
    codesBlk (F := Ideal) y (ix2 r c) = clip (y (ix2 r c) * invOf (tOf (amax fun k => y (ix2 r k)))) := by
  pointwise [codesBlk]
  rw [invBlk_apply, tBlk_apply]
  rfl

/-- The squared relu at row `r` and column `j` of a block. -/
def yB (x0 : Vec Ideal S512x8064 .fp8e4m3) (x1 : Vec Ideal S512x1 .f32) (x2 : Vec Ideal S8064x1664 .fp8e4m3) (x3 : Vec Ideal S1x1664 .f32)
    (r : Fin 512) (j : Fin 1664) : EReal :=
  yAt (fun k => x0 (ix2 r k)) (fun k => x2 (ix2 k j)) (x1 (ix2 r 0)) (x3 (ix2 0 j))

/-- The scale's argument at row `r` and group `g` of a block. -/
def tB (x0 : Vec Ideal S512x8064 .fp8e4m3) (x1 : Vec Ideal S512x1 .f32) (x2 : Vec Ideal S8064x1664 .fp8e4m3) (x3 : Vec Ideal S1x1664 .f32)
    (r : Fin 512) (g : Fin 13) : EReal := tOf (amax fun k => yB x0 x1 x2 x3 r (col g k))

variable (x0 : Vec Ideal S512x8064 .fp8e4m3) (x1 : Vec Ideal S512x1 .f32) (x2 : Vec Ideal S8064x1664 .fp8e4m3) (x3 : Vec Ideal S1x1664 .f32)

theorem y0_apply (r : Fin 512) (c : Fin 128) : y0 (F := Ideal) x0 x1 x2 x3 (ix2 r c) = yB x0 x1 x2 x3 r (col 0 c) := by
  have e : (⟨c.val, by omega⟩ : Fin 1664) = col 0 c := Fin.ext (by show c.val = 0 * 128 + c.val; omega)
  rw [← e]
  pointwise [y0, yBlk, k0_pay3, k0_pay4]
  rfl

theorem y1_apply (r : Fin 512) (c : Fin 128) : y1 (F := Ideal) x0 x1 x2 x3 (ix2 r c) = yB x0 x1 x2 x3 r (col 1 c) := by
  have e : (⟨128 + c.val, by omega⟩ : Fin 1664) = col 1 c := Fin.ext (by show 128 + c.val = 1 * 128 + c.val; omega)
  rw [← e]
  pointwise [y1, yBlk, k0_pay3, k0_pay4]
  rfl

theorem y2_apply (r : Fin 512) (c : Fin 128) : y2 (F := Ideal) x0 x1 x2 x3 (ix2 r c) = yB x0 x1 x2 x3 r (col 2 c) := by
  have e : (⟨256 + c.val, by omega⟩ : Fin 1664) = col 2 c := Fin.ext (by show 256 + c.val = 2 * 128 + c.val; omega)
  rw [← e]
  pointwise [y2, yBlk, k0_pay3, k0_pay4]
  rfl

theorem y3_apply (r : Fin 512) (c : Fin 128) : y3 (F := Ideal) x0 x1 x2 x3 (ix2 r c) = yB x0 x1 x2 x3 r (col 3 c) := by
  have e : (⟨384 + c.val, by omega⟩ : Fin 1664) = col 3 c := Fin.ext (by show 384 + c.val = 3 * 128 + c.val; omega)
  rw [← e]
  pointwise [y3, yBlk, k0_pay3, k0_pay4]
  rfl

theorem y4_apply (r : Fin 512) (c : Fin 128) : y4 (F := Ideal) x0 x1 x2 x3 (ix2 r c) = yB x0 x1 x2 x3 r (col 4 c) := by
  have e : (⟨512 + c.val, by omega⟩ : Fin 1664) = col 4 c := Fin.ext (by show 512 + c.val = 4 * 128 + c.val; omega)
  rw [← e]
  pointwise [y4, yBlk, k0_pay3, k0_pay4]
  rfl

theorem y5_apply (r : Fin 512) (c : Fin 128) : y5 (F := Ideal) x0 x1 x2 x3 (ix2 r c) = yB x0 x1 x2 x3 r (col 5 c) := by
  have e : (⟨640 + c.val, by omega⟩ : Fin 1664) = col 5 c := Fin.ext (by show 640 + c.val = 5 * 128 + c.val; omega)
  rw [← e]
  pointwise [y5, yBlk, k0_pay3, k0_pay4]
  rfl

theorem y6_apply (r : Fin 512) (c : Fin 128) : y6 (F := Ideal) x0 x1 x2 x3 (ix2 r c) = yB x0 x1 x2 x3 r (col 6 c) := by
  have e : (⟨768 + c.val, by omega⟩ : Fin 1664) = col 6 c := Fin.ext (by show 768 + c.val = 6 * 128 + c.val; omega)
  rw [← e]
  pointwise [y6, yBlk, k0_pay3, k0_pay4]
  rfl

theorem y7_apply (r : Fin 512) (c : Fin 128) : y7 (F := Ideal) x0 x1 x2 x3 (ix2 r c) = yB x0 x1 x2 x3 r (col 7 c) := by
  have e : (⟨896 + c.val, by omega⟩ : Fin 1664) = col 7 c := Fin.ext (by show 896 + c.val = 7 * 128 + c.val; omega)
  rw [← e]
  pointwise [y7, yBlk, k0_pay3, k0_pay4]
  rfl

theorem y8_apply (r : Fin 512) (c : Fin 128) : y8 (F := Ideal) x0 x1 x2 x3 (ix2 r c) = yB x0 x1 x2 x3 r (col 8 c) := by
  have e : (⟨1024 + c.val, by omega⟩ : Fin 1664) = col 8 c := Fin.ext (by show 1024 + c.val = 8 * 128 + c.val; omega)
  rw [← e]
  pointwise [y8, yBlk, k0_pay3, k0_pay4]
  rfl

theorem y9_apply (r : Fin 512) (c : Fin 128) : y9 (F := Ideal) x0 x1 x2 x3 (ix2 r c) = yB x0 x1 x2 x3 r (col 9 c) := by
  have e : (⟨1152 + c.val, by omega⟩ : Fin 1664) = col 9 c := Fin.ext (by show 1152 + c.val = 9 * 128 + c.val; omega)
  rw [← e]
  pointwise [y9, yBlk, k0_pay3, k0_pay4]
  rfl

theorem y10_apply (r : Fin 512) (c : Fin 128) : y10 (F := Ideal) x0 x1 x2 x3 (ix2 r c) = yB x0 x1 x2 x3 r (col 10 c) := by
  have e : (⟨1280 + c.val, by omega⟩ : Fin 1664) = col 10 c := Fin.ext (by show 1280 + c.val = 10 * 128 + c.val; omega)
  rw [← e]
  pointwise [y10, yBlk, k0_pay3, k0_pay4]
  rfl

theorem y11_apply (r : Fin 512) (c : Fin 128) : y11 (F := Ideal) x0 x1 x2 x3 (ix2 r c) = yB x0 x1 x2 x3 r (col 11 c) := by
  have e : (⟨1408 + c.val, by omega⟩ : Fin 1664) = col 11 c := Fin.ext (by show 1408 + c.val = 11 * 128 + c.val; omega)
  rw [← e]
  pointwise [y11, yBlk, k0_pay3, k0_pay4]
  rfl

theorem y12_apply (r : Fin 512) (c : Fin 128) : y12 (F := Ideal) x0 x1 x2 x3 (ix2 r c) = yB x0 x1 x2 x3 r (col 12 c) := by
  have e : (⟨1536 + c.val, by omega⟩ : Fin 1664) = col 12 c := Fin.ext (by show 1536 + c.val = 12 * 128 + c.val; omega)
  rw [← e]
  pointwise [y12, yBlk, k0_pay3, k0_pay4]
  rfl

/-- The codes' block as one function of the input blocks. -/
def G4 : Vec Ideal S512x1664 .fp8e4m3 := fun i => clip (yB x0 x1 x2 x3 (i 0) (i 1) * invOf (tB x0 x1 x2 x3 (i 0) (grp (i 1))))

/-- The scales' block as one function of the input blocks. -/
def G5 : Vec Ideal S512x13 .f32 := fun i => scaleOf (tB x0 x1 x2 x3 (i 0) (i 1))

/-- A group's codes are the codes' block there. -/
theorem piece4 (y : FVec Ideal S512x128 .f32) (g : Fin 13) (hy : ∀ (r : Fin 512) (c : Fin 128), y (ix2 r c) = yB x0 x1 x2 x3 r (col g c))
    (n : ℕ) (hn : n = 128 * g.val) (h : ∀ a, (![0, n] : Fin 2 → ℕ) a + S512x128.size a ≤ S512x1664.size a) (x : S512x128.Idx) :
    codesBlk (F := Ideal) y x = G4 x0 x1 x2 x3 ((Rect.unit (s := S512x1664) ![0, n] S512x128.size h).emb x) := by
  obtain ⟨r, c, rfl⟩ : ∃ (r : Fin 512) (c : Fin 128), x = ix2 r c := ⟨x 0, x 1, by
    funext a
    match a with
    | ⟨0, _⟩ => rfl
    | ⟨1, _⟩ => rfl⟩
  have hc : (Rect.unit (s := S512x1664) ![0, n] S512x128.size h).emb (ix2 r c) = ix2 r (col g c) := by
    funext a
    match a with
    | ⟨0, _⟩ => exact Fin.ext (by show 0 + 1 * r.val = r.val; omega)
    | ⟨1, _⟩ => exact Fin.ext (by show n + 1 * c.val = g.val * 128 + c.val; omega)
  have hg : grp (col g c) = g := Fin.ext (by show (g.val * 128 + c.val) / 128 = g.val; omega)
  rw [hc, codesBlk_apply, hy]
  simp only [hy]
  show _ = clip (yB x0 x1 x2 x3 r (col g c) * invOf (tB x0 x1 x2 x3 r (grp (col g c))))
  rw [hg]
  rfl

/-- What the body leaves in the codes' block. -/
theorem out4_apply : out0_4 (F := Ideal) x0 x1 x2 x3 = G4 x0 x1 x2 x3 := by
  funext i
  rw [out4_eq]
  refine View.canon_apply_of_pieces (G4 x0 x1 x2 x3) _ ?_ i (cover0_4 _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl
  · exact piece4 x0 x1 x2 x3 _ 12 (y12_apply x0 x1 x2 x3) 1536 rfl inb_S512x1664_S512x128_0_1536
  · exact piece4 x0 x1 x2 x3 _ 11 (y11_apply x0 x1 x2 x3) 1408 rfl inb_S512x1664_S512x128_0_1408
  · exact piece4 x0 x1 x2 x3 _ 10 (y10_apply x0 x1 x2 x3) 1280 rfl inb_S512x1664_S512x128_0_1280
  · exact piece4 x0 x1 x2 x3 _ 9 (y9_apply x0 x1 x2 x3) 1152 rfl inb_S512x1664_S512x128_0_1152
  · exact piece4 x0 x1 x2 x3 _ 8 (y8_apply x0 x1 x2 x3) 1024 rfl inb_S512x1664_S512x128_0_1024
  · exact piece4 x0 x1 x2 x3 _ 7 (y7_apply x0 x1 x2 x3) 896 rfl inb_S512x1664_S512x128_0_896
  · exact piece4 x0 x1 x2 x3 _ 6 (y6_apply x0 x1 x2 x3) 768 rfl inb_S512x1664_S512x128_0_768
  · exact piece4 x0 x1 x2 x3 _ 5 (y5_apply x0 x1 x2 x3) 640 rfl inb_S512x1664_S512x128_0_640
  · exact piece4 x0 x1 x2 x3 _ 4 (y4_apply x0 x1 x2 x3) 512 rfl inb_S512x1664_S512x128_0_512
  · exact piece4 x0 x1 x2 x3 _ 3 (y3_apply x0 x1 x2 x3) 384 rfl inb_S512x1664_S512x128_0_384
  · exact piece4 x0 x1 x2 x3 _ 2 (y2_apply x0 x1 x2 x3) 256 rfl inb_S512x1664_S512x128_0_256
  · exact piece4 x0 x1 x2 x3 _ 1 (y1_apply x0 x1 x2 x3) 128 rfl inb_S512x1664_S512x128_0_128
  · exact piece4 x0 x1 x2 x3 _ 0 (y0_apply x0 x1 x2 x3) 0 rfl inb_S512x1664_S512x128_0_0

/-- What the body leaves in the scales' block. -/
theorem out5_apply : out0_5 (F := Ideal) x0 x1 x2 x3 = G5 x0 x1 x2 x3 := by
  have hz : (![0, 0] : Fin 2 → ℕ) = fun _ => 0 := funext fun a => by fin_cases a <;> rfl
  rw [out5_eq, View.canon_unit_zero hz]
  funext i
  obtain ⟨r, g, rfl⟩ : ∃ (r : Fin 512) (g : Fin 13), i = ix2 r g := ⟨i 0, i 1, by
    funext a
    match a with
    | ⟨0, _⟩ => rfl
    | ⟨1, _⟩ => rfl⟩
  show _ = scaleOf (tB x0 x1 x2 x3 r g)
  pointwise [k0_pay2]
  fin_vals g with hg
  all_goals simp only [hg, Nat.reduceSub, Nat.reduceLT, ↓reduceDIte]
  all_goals rw [scaleBlk_apply, tBlk_apply]
  · obtain rfl : g = 0 := Fin.ext hg
    simp only [y0_apply]
    rfl
  · obtain rfl : g = 1 := Fin.ext hg
    simp only [y1_apply]
    rfl
  · obtain rfl : g = 2 := Fin.ext hg
    simp only [y2_apply]
    rfl
  · obtain rfl : g = 3 := Fin.ext hg
    simp only [y3_apply]
    rfl
  · obtain rfl : g = 4 := Fin.ext hg
    simp only [y4_apply]
    rfl
  · obtain rfl : g = 5 := Fin.ext hg
    simp only [y5_apply]
    rfl
  · obtain rfl : g = 6 := Fin.ext hg
    simp only [y6_apply]
    rfl
  · obtain rfl : g = 7 := Fin.ext hg
    simp only [y7_apply]
    rfl
  · obtain rfl : g = 8 := Fin.ext hg
    simp only [y8_apply]
    rfl
  · obtain rfl : g = 9 := Fin.ext hg
    simp only [y9_apply]
    rfl
  · obtain rfl : g = 10 := Fin.ext hg
    simp only [y10_apply]
    rfl
  · obtain rfl : g = 11 := Fin.ext hg
    simp only [y11_apply]
    rfl
  · obtain rfl : g = 12 := Fin.ext hg
    simp only [y12_apply]
    rfl

end Cert.Proof.KernelBlock

end
-- ==== Proof.KernelArray.lean ====
/- What the kernel's two result arrays hold after the run, as functions of the four arrays its blocks come from. -/
module

public import proofs.«01_k».proof.Proof.KernelBlock

@[expose] public section

set_option maxRecDepth 16384

noncomputable section

namespace Cert.Proof.KernelArray

open Cert.KernelIdeal Cert.KernelIdeal.Gen Cert.KernelIdeal.Value Cert.Proof.KernelBlock Cert.Proof.Scales
open Idealize.ShloMosaic Idealize.ShloMosaic.TcCoe Idealize.SL.Sem

variable (m : (ℓ : Loc nD τ sig) → Buf (Elt Ideal) ℓ)

/-- The block indices at a grid point: the row block for the activations, their scales and the two results; the whole
    array for the weights and their scales. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The grid has twelve points. -/
theorem lt12 (t : Fin cfg0.N) : t.val < 12 := t.isLt

/-- Row `r` of block `t`. -/
def row (t : Fin cfg0.N) (r : Fin 512) : Fin 6144 := ⟨t.val * 512 + r.val, by have := lt12 t; omega⟩

theorem emb0 (t : Fin cfg0.N) (r : Fin 512) (k : Fin 8064) : ((cfg0.win 0).blk t).view.emb (ix2 r k) = ix2 (row t r) k := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 8064 + 1 * k.val = k.val; omega

theorem emb1 (t : Fin cfg0.N) (r : Fin 512) (k : Fin 1) : ((cfg0.win 1).blk t).view.emb (ix2 r k) = ix2 (row t r) k := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 1 + 1 * k.val = k.val; omega

theorem emb2 (t : Fin cfg0.N) (r : Fin 8064) (k : Fin 1664) : ((cfg0.win 2).blk t).view.emb (ix2 r k) = ix2 r k := by
  obtain ⟨e0, e1⟩ := idx2 t
  funext a; apply Fin.ext
  match a with
  | ⟨0, _⟩ => show win0_2.index t (0 : Fin 2) * 8064 + 1 * r.val = r.val; omega
  | ⟨1, _⟩ => show win0_2.index t (1 : Fin 2) * 1664 + 1 * k.val = k.val; omega

theorem emb3 (t : Fin cfg0.N) (r : Fin 1) (k : Fin 1664) : ((cfg0.win 3).blk t).view.emb (ix2 r k) = ix2 r k := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 1664 + 1 * k.val = k.val; omega

theorem emb4 (t : Fin cfg0.N) (r : Fin 512) (k : Fin 1664) : ((cfg0.win 4).blk t).view.emb (ix2 r k) = ix2 (row t r) k := by
  obtain ⟨e0, e1⟩ := idx4 t
  funext a; apply Fin.ext
  match a with
  | ⟨0, _⟩ => show win0_4.index t (0 : Fin 2) * 512 + 1 * r.val = t.val * 512 + r.val; omega
  | ⟨1, _⟩ => show win0_4.index t (1 : Fin 2) * 1664 + 1 * k.val = k.val; omega

theorem emb5 (t : Fin cfg0.N) (r : Fin 512) (k : Fin 13) : ((cfg0.win 5).blk t).view.emb (ix2 r k) = ix2 (row t r) k := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 13 + 1 * k.val = k.val; omega

/-- The four arrays that the region reads, at region entry. -/
def X (c : Dev nD) : Arr 6144 8064 := V m c main_v0
def XS (c : Dev nD) : Arr 6144 1 := V m c main_v1
def W (c : Dev nD) : Arr 8064 1664 := V m c main_arg2
def WS (c : Dev nD) : Arr 1 1664 := V m c main_v2

theorem iblk0 (c : Dev nD) (t : Fin cfg0.N) (r : Fin 512) (k : Fin 8064) :
    (iblk m c 0 t : Vec Ideal S512x8064 .fp8e4m3) (ix2 r k) = X m c (ix2 (row t r) k) := by
  show V m c main_v0 (((cfg0.win 0).blk t).view.emb (ix2 r k)) = V m c main_v0 (ix2 (row t r) k)
  rw [emb0]

theorem iblk1 (c : Dev nD) (t : Fin cfg0.N) (r : Fin 512) (k : Fin 1) :
    (iblk m c 1 t : Vec Ideal S512x1 .f32) (ix2 r k) = XS m c (ix2 (row t r) k) := by
  show V m c main_v1 (((cfg0.win 1).blk t).view.emb (ix2 r k)) = V m c main_v1 (ix2 (row t r) k)
  rw [emb1]

theorem iblk2 (c : Dev nD) (t : Fin cfg0.N) (r : Fin 8064) (k : Fin 1664) :
    (iblk m c 2 t : Vec Ideal S8064x1664 .fp8e4m3) (ix2 r k) = W m c (ix2 r k) := by
  show V m c main_arg2 (((cfg0.win 2).blk t).view.emb (ix2 r k)) = V m c main_arg2 (ix2 r k)
  rw [emb2]

theorem iblk3 (c : Dev nD) (t : Fin cfg0.N) (r : Fin 1) (k : Fin 1664) :
    (iblk m c 3 t : Vec Ideal S1x1664 .f32) (ix2 r k) = WS m c (ix2 r k) := by
  show V m c main_v2 (((cfg0.win 3).blk t).view.emb (ix2 r k)) = V m c main_v2 (ix2 r k)
  rw [emb3]

/-- A block's squared relu is the array's, at the block's rows. -/
theorem yB_eq (c : Dev nD) (t : Fin cfg0.N) (r : Fin 512) (j : Fin 1664) :
    yB (iblk m c 0 t) (iblk m c 1 t) (iblk m c 2 t) (iblk m c 3 t) r j = yArr (X m c) (XS m c) (W m c) (WS m c) (row t r) j := by
  unfold yB yArr
  simp only [iblk0, iblk1, iblk2, iblk3]

/-- And so is the scale's argument. -/
theorem tB_eq (c : Dev nD) (t : Fin cfg0.N) (r : Fin 512) (g : Fin 13) :
    tB (iblk m c 0 t) (iblk m c 1 t) (iblk m c 2 t) (iblk m c 3 t) r g = tOf (aArr (X m c) (XS m c) (W m c) (WS m c) (row t r) g) := by
  unfold tB aArr
  simp only [yB_eq]

/-- What a grid point writes back to the codes is its block of `codesOf`. -/
theorem flushed4_eq (c : Dev nD) (t : Fin cfg0.N) :
    (dats m 0 c).flushed 4 t = ((cfg0.win 4).blk t).view.read (Elt Ideal) (codesOf (X m c) (XS m c) (W m c) (WS m c)) := by
  rw [flushed4, out4_apply]
  funext j
  obtain ⟨r, k, rfl⟩ : ∃ (r : Fin 512) (k : Fin 1664), j = ix2 r k := ⟨j 0, j 1, by
    funext a
    match a with
    | ⟨0, _⟩ => rfl
    | ⟨1, _⟩ => rfl⟩
  show G4 (iblk m c 0 t) (iblk m c 1 t) (iblk m c 2 t) (iblk m c 3 t) (ix2 r k)
    = codesOf (X m c) (XS m c) (W m c) (WS m c) (((cfg0.win 4).blk t).view.emb (ix2 r k))
  rw [emb4]
  show clip (yB (iblk m c 0 t) (iblk m c 1 t) (iblk m c 2 t) (iblk m c 3 t) r k
      * invOf (tB (iblk m c 0 t) (iblk m c 1 t) (iblk m c 2 t) (iblk m c 3 t) r (grp k)))
    = clip (yArr (X m c) (XS m c) (W m c) (WS m c) (row t r) k * invOf (tOf (aArr (X m c) (XS m c) (W m c) (WS m c) (row t r) (grp k))))
  rw [yB_eq, tB_eq]

/-- What a grid point writes back to the scales is its block of `scalesOf`. -/
theorem flushed5_eq (c : Dev nD) (t : Fin cfg0.N) :
    (dats m 0 c).flushed 5 t = ((cfg0.win 5).blk t).view.read (Elt Ideal) (scalesOf (X m c) (XS m c) (W m c) (WS m c)) := by
  rw [flushed5, out5_apply]
  funext j
  obtain ⟨r, k, rfl⟩ : ∃ (r : Fin 512) (k : Fin 13), j = ix2 r k := ⟨j 0, j 1, by
    funext a
    match a with
    | ⟨0, _⟩ => rfl
    | ⟨1, _⟩ => rfl⟩
  show G5 (iblk m c 0 t) (iblk m c 1 t) (iblk m c 2 t) (iblk m c 3 t) (ix2 r k)
    = scalesOf (X m c) (XS m c) (W m c) (WS m c) (((cfg0.win 5).blk t).view.emb (ix2 r k))
  rw [emb5]
  show scaleOf (tB (iblk m c 0 t) (iblk m c 1 t) (iblk m c 2 t) (iblk m c 3 t) r k)
    = scaleOf (tOf (aArr (X m c) (XS m c) (W m c) (WS m c) (row t r) k))
  rw [tB_eq]

/-- The grid point that holds a row. -/
def pt (r : Fin 6144) : Fin cfg0.N := ⟨r.val / 512, by show r.val / 512 < 12; omega⟩

theorem row_pt (r : Fin 6144) : row (pt r) ⟨r.val % 512, by omega⟩ = r :=
  Fin.ext (by show r.val / 512 * 512 + r.val % 512 = r.val; omega)

/-- The codes' array after the run. -/
theorem final4 (c : Dev nD) : (dats m 0 c).arrAt 4 cfg0.N = codesOf (X m c) (XS m c) (W m c) (WS m c) := by
  refine (dats m 0 c).arrAt_eq_of_cover 4 (codesOf (X m c) (XS m c) (W m c) (WS m c)) (fun t _ => flushed4_eq m c t) fun i => ?_
  obtain ⟨r, k, rfl⟩ : ∃ (r : Fin 6144) (k : Fin 1664), i = ix2 r k := ⟨i 0, i 1, by
    funext a
    match a with
    | ⟨0, _⟩ => rfl
    | ⟨1, _⟩ => rfl⟩
  refine ⟨pt r, flush0_4 _, ?_⟩
  have h := ((cfg0.win 4).blk (pt r)).view.emb_mem_set (ix2 ⟨r.val % 512, by omega⟩ k)
  rwa [emb4, row_pt] at h

/-- The scales' array after the run. -/
theorem final5 (c : Dev nD) : (dats m 0 c).arrAt 5 cfg0.N = scalesOf (X m c) (XS m c) (W m c) (WS m c) := by
  refine (dats m 0 c).arrAt_eq_of_cover 5 (scalesOf (X m c) (XS m c) (W m c) (WS m c)) (fun t _ => flushed5_eq m c t) fun i => ?_
  obtain ⟨r, k, rfl⟩ : ∃ (r : Fin 6144) (k : Fin 13), i = ix2 r k := ⟨i 0, i 1, by
    funext a
    match a with
    | ⟨0, _⟩ => rfl
    | ⟨1, _⟩ => rfl⟩
  refine ⟨pt r, flush0_5 _, ?_⟩
  have h := ((cfg0.win 5).blk (pt r)).view.emb_mem_set (ix2 ⟨r.val % 512, by omega⟩ k)
  rwa [emb5, row_pt] at h

end Cert.Proof.KernelArray

end
-- ==== Proof.RefRun.lean ====
/- The reference's run, with each result array named: its single grid point writes back what the body leaves. -/
module

public import proofs.«01_k».proof.Proof.Gen.ReferenceIdeal.Frame
public import Idealize.ShloMosaic.Lib.Pipeline.Value

@[expose] public section

noncomputable section

namespace Cert.Proof.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What point `t` writes back to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run named (`(dats m 0 c).arrAt w N`),
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end Cert.Proof.RefRun

end
-- ==== Proof.RefBlock.lean ====
/- What the reference's body computes, index by index at `Ideal`. -/
module

public import proofs.«01_k».proof.Proof.Gen.ReferenceIdeal.Frame
public import proofs.«01_k».proof.Proof.Scales
public import Idealize.ShloMosaic.Lib.Pointwise
public import Idealize.ShloMosaic.Lib.ValueIdx

@[expose] public section

set_option maxRecDepth 16384

noncomputable section

namespace Cert.Proof.RefBlock

open Cert.ReferenceIdeal Cert.ReferenceIdeal.Gen Cert.Proof.Scales Idealize.ShloMosaic Idealize.SL.Sem

/-- Each group's greatest magnitude. -/
def aArr (y : FVec Ideal S6144x13x128 .f32) : FVec Ideal S6144x13 .f32 :=
  multiReduction .maximumf [2] S6144x13 (absf y) 0xFF800000#32 reduces_S6144x13x128_S6144x13 (.inl rfl) rfl

/-- Each group's exponent, from its greatest magnitude. -/
def eArr (a : FVec Ideal S6144x13 .f32) : FVec Ideal S6144x13 .f32 :=
  have t : FVec Ideal S6144x13 .f32 := mulf a (broadcast S6144x13 (Scalar.ofBits .f32 0x3B124925#32))
  have e : FVec Ideal S6144x13 .f32 := addf (floor (divf (log t) (log (broadcast S6144x13 (Scalar.ofBits (F := Ideal) .f32 0x40000000#32)))))
    (broadcast S6144x13 (Scalar.ofBits .f32 0x3F800000#32))
  have lo : IVec S6144x13 1 := cmpf .oge t (broadcast S6144x13 (Scalar.ofBits .f32 0x00800000#32))
  have hi : IVec S6144x13 1 := cmpf .olt t (broadcast S6144x13 (Scalar.ofBits .f32 0x7E800000#32))
  have e' : FVec Ideal S6144x13 .f32 := select (andi lo hi) e (broadcast S6144x13 (Scalar.ofBits .f32 0x00000000#32))
  select (cmpf .oeq a (broadcast S6144x13 (Scalar.ofBits .f32 0x00000000#32))) (broadcast S6144x13 (Scalar.ofBits .f32 0x00000000#32)) e'

/-- The exponent negated. -/
def negArr (e : FVec Ideal S6144x13 .f32) : FVec Ideal S6144x13 .f32 :=
  subf (broadcast S6144x13 (Scalar.ofBits .f32 0x00000000#32)) e

/-- The printed exponents are these of the printed squared relu. -/
theorem pay4_eq (x : FVec Ideal S6144x8064 .fp8e4m3) (w : FVec Ideal S8064x1664 .fp8e4m3) (xs : FVec Ideal S6144x1 .f32) (ws : FVec Ideal S1x1664 .f32) :
    k0_pay4 (F := Ideal) x w xs ws = eArr (aArr (k0_pay3 x w xs ws)) := rfl

/-- The printed negated exponents likewise. -/
theorem pay5_eq (x : FVec Ideal S6144x8064 .fp8e4m3) (w : FVec Ideal S8064x1664 .fp8e4m3) (xs : FVec Ideal S6144x1 .f32) (ws : FVec Ideal S1x1664 .f32) :
    k0_pay5 (F := Ideal) x w xs ws = negArr (eArr (aArr (k0_pay3 x w xs ws))) := rfl

theorem aArr_apply (y : FVec Ideal S6144x13x128 .f32) (r : Fin 6144) (g : Fin 13) :
    aArr y (ix2 r g) = amax fun c => y (ix3 r g c) := by
  pointwise [aArr]
  rfl

theorem eArr_apply (a : FVec Ideal S6144x13 .f32) (r : Fin 6144) (g : Fin 13) :
    eArr a (ix2 r g) = expo (a (ix2 r g)) := by
  pointwise [eArr]
  rfl

theorem negArr_apply (e : FVec Ideal S6144x13 .f32) (r : Fin 6144) (g : Fin 13) :
    negArr e (ix2 r g) = 0 - e (ix2 r g) := by
  pointwise [negArr]

/-- The squared relu of a scaled product, cut into groups. -/
theorem pay3_apply (x : FVec Ideal S6144x8064 .fp8e4m3) (w : FVec Ideal S8064x1664 .fp8e4m3) (xs : FVec Ideal S6144x1 .f32) (ws : FVec Ideal S1x1664 .f32)
    (r : Fin 6144) (g : Fin 13) (c : Fin 128) :
    k0_pay3 (F := Ideal) x w xs ws (ix3 r g c)
      = yAt (fun k => x (ix2 r k)) (fun k => w (ix2 k (col g c))) (xs (ix2 r 0)) (ws (ix2 0 (col g c))) := by
  pointwise [k0_pay3]
  rfl

theorem pay2_apply (e : FVec Ideal S6144x13 .f32) (r : Fin 6144) (g : Fin 13) :
    k0_pay2 (F := Ideal) e (ix2 r g) = Ideal.exp2 (e (ix2 r g)) := by
  pointwise [k0_pay2]
  rfl

theorem pay1_apply (y : FVec Ideal S6144x13x128 .f32) (e : FVec Ideal S6144x13 .f32) (r : Fin 6144) (j : Fin 1664) :
    k0_pay1 (F := Ideal) y e (ix2 r j)
      = clip (y (ix3 r (grp j) (lane j)) * Ideal.exp2 (e (ix2 r (grp j)))) := by
  pointwise [k0_pay1]
  rfl

end Cert.Proof.RefBlock

end
-- ==== Proof.RefArray.lean ====
/- What the reference's two result arrays hold after the run, as the same functions of its four arrays as the kernel's. -/
module

public import proofs.«01_k».proof.Proof.RefRun
public import proofs.«01_k».proof.Proof.RefBlock

@[expose] public section

set_option maxRecDepth 16384

noncomputable section

namespace Cert.Proof.RefArray

open Cert.ReferenceIdeal Cert.ReferenceIdeal.Gen Cert.Proof.RefRun Cert.Proof.Scales
open Cert.Proof.RefBlock (pay4_eq pay5_eq aArr_apply eArr_apply negArr_apply pay3_apply pay2_apply pay1_apply)
open Idealize.ShloMosaic Idealize.ShloMosaic.TcCoe Idealize.SL.Sem

/-! ## What the body leaves, as a function of the whole arrays -/

/-- A whole-array rectangle starts at zero. -/
theorem hz : (![0, 0] : Fin 2 → ℕ) = fun _ => 0 := by
  funext a
  match a with
  | ⟨0, _⟩ => rfl
  | ⟨1, _⟩ => rfl

/-- Every index of a two-axis shape is a pair. -/
theorem ix2_eta {a b : ℕ} (i : (⟨2, ![a, b]⟩ : Shape).Idx) : ∃ (r : Fin a) (k : Fin b), i = ix2 r k := ⟨i 0, i 1, by
  funext a
  match a with
  | ⟨0, _⟩ => rfl
  | ⟨1, _⟩ => rfl⟩

section Body

variable (x0 : Vec Ideal S6144x8064 .fp8e4m3) (x1 : Vec Ideal S6144x1 .f32) (x2 : Vec Ideal S8064x1664 .fp8e4m3) (x3 : Vec Ideal S1x1664 .f32)

/-- The grouped squared relu is the array's. -/
theorem y_apply (r : Fin 6144) (g : Fin 13) (k : Fin 128) :
    k0_pay3 (F := Ideal) x0 x2 x1 x3 (ix3 r g k) = yArr x0 x1 x2 x3 r (col g k) := pay3_apply x0 x2 x1 x3 r g k

/-- Each group's greatest magnitude is the array's. -/
theorem a_apply (r : Fin 6144) (g : Fin 13) :
    RefBlock.aArr (k0_pay3 (F := Ideal) x0 x2 x1 x3) (ix2 r g) = Scales.aArr x0 x1 x2 x3 r g := by
  rw [aArr_apply]
  simp only [y_apply]
  rfl

theorem t_nonneg (r : Fin 6144) (g : Fin 13) : 0 ≤ tOf (Scales.aArr x0 x1 x2 x3 r g) := tOf_nonneg _ (amax_nonneg _)

/-- The codes that the body leaves. -/
theorem out4_apply : out0_4 (F := Ideal) x0 x1 x2 x3 = codesOf x0 x1 x2 x3 := by
  unfold out0_4
  rw [View.canon_unit_zero hz, View.ld_unit_zero hz, View.ld_unit_zero hz, View.ld_unit_zero hz, View.ld_unit_zero hz]
  funext i
  obtain ⟨r, j, rfl⟩ := ix2_eta i
  rw [pay1_apply, pay5_eq, negArr_apply, eArr_apply, a_apply, y_apply, col_grp_lane, inv_eq _ (t_nonneg x0 x1 x2 x3 r (grp j))]
  rfl

/-- The scales that the body leaves. -/
theorem out5_apply : out0_5 (F := Ideal) x0 x1 x2 x3 = scalesOf x0 x1 x2 x3 := by
  unfold out0_5
  rw [View.canon_unit_zero hz, View.ld_unit_zero hz, View.ld_unit_zero hz, View.ld_unit_zero hz, View.ld_unit_zero hz]
  funext i
  obtain ⟨r, g, rfl⟩ := ix2_eta i
  rw [pay2_apply, pay4_eq, eArr_apply, a_apply, scale_eq _ (t_nonneg x0 x1 x2 x3 r g)]
  rfl

end Body

/-! ## The arrays after the run -/

variable (m : (ℓ : Loc nD τ sig) → Buf (Elt Ideal) ℓ)

/-- Every window's block is its whole array. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem emb0 (t : Fin cfg0.N) (r : Fin 6144) (k : Fin 8064) : ((cfg0.win 0).blk t).view.emb (ix2 r k) = ix2 r k := by
  obtain ⟨e0, e1⟩ := idx0 t
  funext a; apply Fin.ext
  match a with
  | ⟨0, _⟩ => show win0_0.index t (0 : Fin 2) * 6144 + 1 * r.val = r.val; omega
  | ⟨1, _⟩ => show win0_0.index t (1 : Fin 2) * 8064 + 1 * k.val = k.val; omega

theorem emb1 (t : Fin cfg0.N) (r : Fin 6144) (k : Fin 1) : ((cfg0.win 1).blk t).view.emb (ix2 r k) = ix2 r k := by
  obtain ⟨e0, e1⟩ := idx1 t
  funext a; apply Fin.ext
  match a with
  | ⟨0, _⟩ => show win0_1.index t (0 : Fin 2) * 6144 + 1 * r.val = r.val; omega
  | ⟨1, _⟩ => show win0_1.index t (1 : Fin 2) * 1 + 1 * k.val = k.val; omega

theorem emb2 (t : Fin cfg0.N) (r : Fin 8064) (k : Fin 1664) : ((cfg0.win 2).blk t).view.emb (ix2 r k) = ix2 r k := by
  obtain ⟨e0, e1⟩ := idx2 t
  funext a; apply Fin.ext
  match a with
  | ⟨0, _⟩ => show win0_2.index t (0 : Fin 2) * 8064 + 1 * r.val = r.val; omega
  | ⟨1, _⟩ => show win0_2.index t (1 : Fin 2) * 1664 + 1 * k.val = k.val; omega

theorem emb3 (t : Fin cfg0.N) (r : Fin 1) (k : Fin 1664) : ((cfg0.win 3).blk t).view.emb (ix2 r k) = ix2 r k := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 1664 + 1 * k.val = k.val; omega

theorem emb4 (t : Fin cfg0.N) (r : Fin 6144) (k : Fin 1664) : ((cfg0.win 4).blk t).view.emb (ix2 r k) = ix2 r k := by
  obtain ⟨e0, e1⟩ := idx4 t
  funext a; apply Fin.ext
  match a with
  | ⟨0, _⟩ => show win0_4.index t (0 : Fin 2) * 6144 + 1 * r.val = r.val; omega
  | ⟨1, _⟩ => show win0_4.index t (1 : Fin 2) * 1664 + 1 * k.val = k.val; omega

theorem emb5 (t : Fin cfg0.N) (r : Fin 6144) (k : Fin 13) : ((cfg0.win 5).blk t).view.emb (ix2 r k) = ix2 r k := by
  obtain ⟨e0, e1⟩ := idx5 t
  funext a; apply Fin.ext
  match a with
  | ⟨0, _⟩ => show win0_5.index t (0 : Fin 2) * 6144 + 1 * r.val = r.val; omega
  | ⟨1, _⟩ => show win0_5.index t (1 : Fin 2) * 13 + 1 * k.val = k.val; omega

/-- The four arrays that the region reads, at region entry. -/
def X (c : Dev nD) : Arr 6144 8064 := V m c main_v0
def XS (c : Dev nD) : Arr 6144 1 := V m c main_v1
def W (c : Dev nD) : Arr 8064 1664 := V m c main_arg2
def WS (c : Dev nD) : Arr 1 1664 := V m c main_v2

theorem iblk0 (c : Dev nD) (t : Fin cfg0.N) : iblk m c 0 t = X m c := by
  funext i
  obtain ⟨r, k, rfl⟩ : ∃ (r : Fin 6144) (k : Fin 8064), i = ix2 r k := ix2_eta (a := 6144) (b := 8064) i
  show V m c main_v0 (((cfg0.win 0).blk t).view.emb (ix2 r k)) = V m c main_v0 (ix2 r k)
  rw [emb0]

theorem iblk1 (c : Dev nD) (t : Fin cfg0.N) : iblk m c 1 t = XS m c := by
  funext i
  obtain ⟨r, k, rfl⟩ : ∃ (r : Fin 6144) (k : Fin 1), i = ix2 r k := ix2_eta (a := 6144) (b := 1) i
  show V m c main_v1 (((cfg0.win 1).blk t).view.emb (ix2 r k)) = V m c main_v1 (ix2 r k)
  rw [emb1]

theorem iblk2 (c : Dev nD) (t : Fin cfg0.N) : iblk m c 2 t = W m c := by
  funext i
  obtain ⟨r, k, rfl⟩ : ∃ (r : Fin 8064) (k : Fin 1664), i = ix2 r k := ix2_eta (a := 8064) (b := 1664) i
  show V m c main_arg2 (((cfg0.win 2).blk t).view.emb (ix2 r k)) = V m c main_arg2 (ix2 r k)
  rw [emb2]

theorem iblk3 (c : Dev nD) (t : Fin cfg0.N) : iblk m c 3 t = WS m c := by
  funext i
  obtain ⟨r, k, rfl⟩ : ∃ (r : Fin 1) (k : Fin 1664), i = ix2 r k := ix2_eta (a := 1) (b := 1664) i
  show V m c main_v2 (((cfg0.win 3).blk t).view.emb (ix2 r k)) = V m c main_v2 (ix2 r k)
  rw [emb3]

/-- What the grid point writes back to the codes is `codesOf`. -/
theorem flushed4_eq (c : Dev nD) (t : Fin cfg0.N) :
    (dats m 0 c).flushed 4 t = ((cfg0.win 4).blk t).view.read (Elt Ideal) (codesOf (X m c) (XS m c) (W m c) (WS m c)) := by
  rw [flushed4, out4_apply, iblk0, iblk1, iblk2, iblk3]
  funext j
  obtain ⟨r, k, rfl⟩ : ∃ (r : Fin 6144) (k : Fin 1664), j = ix2 r k := ix2_eta (a := 6144) (b := 1664) j
  show codesOf (X m c) (XS m c) (W m c) (WS m c) (ix2 r k) = codesOf (X m c) (XS m c) (W m c) (WS m c) (((cfg0.win 4).blk t).view.emb (ix2 r k))
  rw [emb4]

/-- The codes' array after the run. -/
theorem final4 (c : Dev nD) : (dats m 0 c).arrAt 4 cfg0.N = codesOf (X m c) (XS m c) (W m c) (WS m c) := by
  refine (dats m 0 c).arrAt_eq_of_cover 4 (codesOf (X m c) (XS m c) (W m c) (WS m c)) (fun t _ => flushed4_eq m c t) fun i => ?_
  obtain ⟨r, k, rfl⟩ : ∃ (r : Fin 6144) (k : Fin 1664), i = ix2 r k := ix2_eta (a := 6144) (b := 1664) i
  refine ⟨t0_0, flush0_4 _, ?_⟩
  have h := ((cfg0.win 4).blk t0_0).view.emb_mem_set (ix2 r k)
  rwa [emb4] at h

/-- What the grid point writes back to the scales is `scalesOf`. -/
theorem flushed5_eq (c : Dev nD) (t : Fin cfg0.N) :
    (dats m 0 c).flushed 5 t = ((cfg0.win 5).blk t).view.read (Elt Ideal) (scalesOf (X m c) (XS m c) (W m c) (WS m c)) := by
  rw [flushed5, out5_apply, iblk0, iblk1, iblk2, iblk3]
  funext j
  obtain ⟨r, k, rfl⟩ : ∃ (r : Fin 6144) (k : Fin 13), j = ix2 r k := ix2_eta (a := 6144) (b := 13) j
  show scalesOf (X m c) (XS m c) (W m c) (WS m c) (ix2 r k) = scalesOf (X m c) (XS m c) (W m c) (WS m c) (((cfg0.win 5).blk t).view.emb (ix2 r k))
  rw [emb5]

/-- The scales' array after the run. -/
theorem final5 (c : Dev nD) : (dats m 0 c).arrAt 5 cfg0.N = scalesOf (X m c) (XS m c) (W m c) (WS m c) := by
  refine (dats m 0 c).arrAt_eq_of_cover 5 (scalesOf (X m c) (XS m c) (W m c) (WS m c)) (fun t _ => flushed5_eq m c t) fun i => ?_
  obtain ⟨r, k, rfl⟩ : ∃ (r : Fin 6144) (k : Fin 13), i = ix2 r k := ix2_eta (a := 6144) (b := 13) i
  refine ⟨t0_0, flush0_5 _, ?_⟩
  have h := ((cfg0.win 5).blk t0_0).view.emb_mem_set (ix2 r k)
  rwa [emb5] at h

end Cert.Proof.RefArray

end
-- ==== Proof.Host.lean ====
/- The arrays that the two regions read are the arguments, reshaped: the host lines of both programs agree. -/
module

public import proofs.«01_k».proof.Proof.KernelArray
public import proofs.«01_k».proof.Proof.RefArray

@[expose] public section

set_option maxRecDepth 16384

noncomputable section

namespace Cert.Proof.Host

open Idealize.ShloMosaic Idealize.ShloMosaic.TcCoe Idealize.SL.Sem

section K
open Cert.KernelIdeal Cert.KernelIdeal.Gen
variable (m : (ℓ : Loc nD τ sig) → Buf (Elt Ideal) ℓ) (c : Dev nD)

theorem K_X : KernelArray.X m c = shapeCast S6144x8064 (m ((c.tc : Thread nD τ).loc main_arg0)) shapeCasts_S6x1024x8064_S6144x8064 := by
  unfold KernelArray.X
  unfold_abbrev_sides
  after_results
  rfl

theorem K_XS : KernelArray.XS m c = shapeCast S6144x1 (m ((c.tc : Thread nD τ).loc main_arg1)) shapeCasts_S6x1024_S6144x1 := by
  unfold KernelArray.XS
  unfold_abbrev_sides
  after_results
  rfl

theorem K_WS : KernelArray.WS m c = shapeCast S1x1664 (m ((c.tc : Thread nD τ).loc main_arg3)) shapeCasts_S1664_S1x1664 := by
  unfold KernelArray.WS
  unfold_abbrev_sides
  after_results
  rfl

theorem K_W : KernelArray.W m c = m ((c.tc : Thread nD τ).loc main_arg2) := V_main_arg2 m c

end K

section R
open Cert.ReferenceIdeal Cert.ReferenceIdeal.Gen
variable (m : (ℓ : Loc nD τ sig) → Buf (Elt Ideal) ℓ) (c : Dev nD)

theorem R_X : RefArray.X m c = shapeCast S6144x8064 (m ((c.tc : Thread nD τ).loc main_arg0)) shapeCasts_S6x1024x8064_S6144x8064 := by
  unfold RefArray.X
  unfold_abbrev_sides
  after_results
  rfl

theorem R_XS : RefArray.XS m c = shapeCast S6144x1 (m ((c.tc : Thread nD τ).loc main_arg1)) shapeCasts_S6x1024_S6144x1 := by
  unfold RefArray.XS
  unfold_abbrev_sides
  after_results
  rfl

theorem R_WS : RefArray.WS m c = shapeCast S1x1664 (m ((c.tc : Thread nD τ).loc main_arg3)) shapeCasts_S1664_S1x1664 := by
  unfold RefArray.WS
  unfold_abbrev_sides
  after_results
  rfl

theorem R_W : RefArray.W m c = m ((c.tc : Thread nD τ).loc main_arg2) := V_main_arg2 m c

end R

end Cert.Proof.Host

end
-- ==== Proof.Equation.lean ====
/- The two programs' results are equal from equal arguments. -/
module

public import proofs.«01_k».proof.Proof.Host

@[expose] public section

set_option maxRecDepth 16384

noncomputable section

namespace Cert.Proof.Equation

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The four arguments agree on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The codes that the kernel leaves, as a function of its entry arrays. -/
def codes (c : Dev Cert.KernelIdeal.nD) : Scales.Arr 6144 1664 :=
  Scales.codesOf (KernelArray.X m c) (KernelArray.XS m c) (KernelArray.W m c) (KernelArray.WS m c)

/-- The scales that the kernel leaves. -/
def scales (c : Dev Cert.KernelIdeal.nD) : Scales.Arr 6144 13 :=
  Scales.scalesOf (KernelArray.X m c) (KernelArray.XS m c) (KernelArray.W m c) (KernelArray.WS m c)

variable {m m'} in
/-- From agreeing arguments the reference's region reads the arrays that the kernel's reads. -/
theorem entry {c : Dev Cert.KernelIdeal.nD} (h : Agree m m' c) :
    RefArray.X m' c = KernelArray.X m c ∧ RefArray.XS m' c = KernelArray.XS m c
      ∧ RefArray.W m' c = KernelArray.W m c ∧ RefArray.WS m' c = KernelArray.WS m c := by
  obtain ⟨h0, h1, h2, h3⟩ := h
  refine ⟨?_, ?_, ?_, ?_⟩
  · rw [Host.R_X, Host.K_X, h0]
  · rw [Host.R_XS, Host.K_XS, h1]
  · rw [Host.R_W, Host.K_W, h2]
  · rw [Host.R_WS, Host.K_WS, h3]

/-- The kernel's run leaves `codes` and `scales`. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = codes m c
      ∧ r.2.mem ((c.tc : Thread Cert.KernelIdeal.nD Cert.KernelIdeal.τ).loc Cert.KernelIdeal.main_v3_1) = scales m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun _ h c => ⟨(h c).1.trans (KernelArray.final4 m c), (h c).2.1.trans (KernelArray.final5 m c), (h c).2.2⟩)
    (Cert.KernelIdeal.Value.run_blocks m g)

/-- From agreeing arguments the reference's run leaves the same. -/
theorem reference_run (g : Dev Cert.ReferenceIdeal.nD → PrngReg) (h : ∀ c, Agree m m' c) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v3_0) = codes m c
      ∧ r.2.mem ((c.tc : Thread Cert.ReferenceIdeal.nD Cert.ReferenceIdeal.τ).loc Cert.ReferenceIdeal.main_v3_1) = scales m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun _ h' c => ⟨(h' c).1.trans ?_, (h' c).2.1.trans ?_, (h' c).2.2⟩) (RefRun.run_blocks m' g)
  · obtain ⟨e0, e1, e2, e3⟩ := entry (h c)
    rw [RefArray.final4, e0, e1, e2, e3]
    rfl
  · obtain ⟨e0, e1, e2, e3⟩ := entry (h c)
    rw [RefArray.final5, e0, e1, e2, e3]
    rfl

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial,
  fun m g m' g' _ h => ⟨Equation.codes m, Equation.scales m, Equation.kernel_run m g, Equation.reference_run m m' g' h⟩⟩

end Cert.Proof

end
